-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S10000x40 : Shape := ⟨2, ![10000, 40]⟩
abbrev S400x10000 : Shape := ⟨2, ![400, 10000]⟩
abbrev S400x40 : Shape := ⟨2, ![400, 40]⟩
abbrev S400x128 : Shape := ⟨2, ![400, 128]⟩
abbrev S1000x10000 : Shape := ⟨2, ![1000, 10000]⟩
abbrev S1000x40 : Shape := ⟨2, ![1000, 40]⟩
abbrev S1 : Shape := ⟨1, ![1]⟩
abbrev S1x10000x40 : Shape := ⟨3, ![1, 10000, 40]⟩
abbrev S1x1x1 : Shape := ⟨3, ![1, 1, 1]⟩

abbrev nBuf : Space → Nat
  | .hbm => 11
  | .vmem => 18
  | .smem => 1
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x128, .f32⟩
  | .hbm, ⟨7, _⟩ => ⟨S1x40, .f32⟩
  | .hbm, ⟨8, _⟩ => ⟨S10000x10000, .fp8e4m3⟩
  | .hbm, ⟨9, _⟩ => ⟨S10000x40, .bf16⟩
  | .hbm, ⟨10, _⟩ => ⟨S10000x40, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x40, .f32⟩
  | .local _ .vmem, ⟨6, _⟩ => ⟨S1x40, .f32⟩
  | .local _ .vmem, ⟨7, _⟩ => ⟨S400x10000, .fp8e4m3⟩
  | .local _ .vmem, ⟨8, _⟩ => ⟨S400x10000, .fp8e4m3⟩
  | .local _ .vmem, ⟨9, _⟩ => ⟨S400x40, .bf16⟩
  | .local _ .vmem, ⟨10, _⟩ => ⟨S400x40, .bf16⟩
  | .local _ .vmem, ⟨11, _⟩ => ⟨S10000x128, .bf16⟩
  | .local _ .vmem, ⟨12, _⟩ => ⟨S1000x10000, .fp8e4m3⟩
  | .local _ .vmem, ⟨13, _⟩ => ⟨S1000x10000, .fp8e4m3⟩
  | .local _ .vmem, ⟨14, _⟩ => ⟨S10000x40, .bf16⟩
  | .local _ .vmem, ⟨15, _⟩ => ⟨S1000x40, .f32⟩
  | .local _ .vmem, ⟨16, _⟩ => ⟨S1000x40, .f32⟩
  | .local _ .vmem, ⟨17, _⟩ => ⟨S10000x40, .fp8e4m3⟩
  | .local _ .smem, ⟨0, _⟩ => ⟨S1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc1_scratch1 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x40 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x40 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x40, .f32⟩
  | .hbm, ⟨15, _⟩ => ⟨S1x40, .f32⟩
  | .hbm, ⟨16, _⟩ => ⟨S10000x40, .f32⟩
  | .hbm, ⟨17, _⟩ => ⟨S10000x40, .f32⟩
  | .hbm, ⟨18, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.KernelIdealBody.lean ====
/-
  What the two kernel bodies do at one grid point, as Hoare triples over any staging memrefs.

  Every load and store of either body covers its whole memref, so a run is described by the values alone: with the input
  blocks at given contents the body leaves each output block, and the scratch it fills at the first point, at the payload
  the generated skeleton names. Each body has one branch (taken at the first grid point only, where it fills the scratch),
  hence two triples per body.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.ValueKit
public import Idealize.ShloMosaic.Lib.VecWindow
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first pass fills its scratch at this point. -/
abbrev fillsA (i : grid0.Coords) : Prop := (Scalar.cmpi .ne (Scalar.extui (Scalar.cmpi .eq (BitVec.ofNat 32 (i 0).val) 0#32)) 0#32) = 1#1
/-- The second pass fills its scratches at this point. -/
abbrev fillsB (i : grid1.Coords) : Prop := (Scalar.cmpi .ne (Scalar.extui (Scalar.cmpi .eq (BitVec.ofNat 32 (i 0).val) 0#32)) 0#32) = 1#1

/-- The first pass fills its scratch at grid point 0 and at no other. -/
theorem fillsA_iff : ∀ t : Fin cfg0.N, fillsA (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    simp only [fillsA, e0]
    word_cmp
   : ∀ t : Fin grid0.N, fillsA (grid0.coords t) ↔ t.val = 0)

/-- The second pass fills its scratches at grid point 0 and at no other. -/
theorem fillsB_iff : ∀ t : Fin cfg1.N, fillsB (grid1.coords t) ↔ t.val = 0 :=
  (fun t => by
    have ht : t.val < 10 := Nat.lt_of_lt_of_eq t.isLt N_1
    have e0 : (grid1.coords t 0).val = t.val / 1 % 10 := Pipeline.Grid.coords_val t 0 (by decide) rfl
    simp only [fillsB, e0]
    word_cmp
   : ∀ t : Fin grid1.N, fillsB (grid1.coords t) ↔ t.val = 0)

section PassA

variable (c : Dev nD) (i : grid0.Coords) (arg1 : Memref sig .tc .vmem S10000x128 .f32) (harg1 : arg1.IsWhole) (arg2 : Memref sig .tc .vmem S400x10000 .f32) (harg2 : arg2.IsWhole)
  (arg3 : Memref sig .tc .vmem S128x128 .f32) (harg3 : arg3.IsWhole) (arg4 : Memref sig .tc .vmem S1x128 .f32) (harg4 : arg4.IsWhole) (arg5 : Memref sig .tc .vmem S128x40 .f32) (harg5 : arg5.IsWhole)
  (arg6 : Memref sig .tc .vmem S1x40 .f32) (harg6 : arg6.IsWhole) (arg7 : Memref sig .tc .vmem S400x10000 .fp8e4m3) (harg7 : arg7.IsWhole) (arg8 : Memref sig .tc .vmem S400x40 .bf16) (harg8 : arg8.IsWhole)
  (arg9 : Memref sig .tc .vmem S10000x128 .bf16) (harg9 : arg9.IsWhole)
  (x0 : Vec F S10000x128 .f32) (x1 : Vec F S400x10000 .f32) (x2 : Vec F S128x128 .f32) (x3 : Vec F S1x128 .f32) (x4 : Vec F S128x40 .f32) (x5 : Vec F S1x40 .f32)

/-- The first pass's six input blocks, owned at their contents. -/
abbrev inputsA : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

/-- What the first pass leaves in its two output blocks and in its scratch, the scratch holding `h` when they are computed. -/
abbrev leavesA (h : Vec F S10000x128 .bf16) : sProp 𝕄 :=
  iprop(owns (c : Thread nD τ) arg7 fullShare (k0_pay2 x1) ∗ owns (c : Thread nD τ) arg8 fullShare (k0_pay3 x1 h x4 x5) ∗ owns (c : Thread nD τ) arg9 fullShare h)

/-- THE FIRST PASS AT POINT 0: the scratch, whatever it held, is filled with the hidden features `x·W1 + b1` of the whole
    input; the outputs are the scaled adjacency block and the block of second-layer features computed from that scratch. -/
theorem passA_first (hc : fillsA i) (E : Set ℕ) (K : PUnit → sProp 𝕄) :
    iprop(inputsA c arg1 arg2 arg3 arg4 arg5 arg6 x0 x1 x2 x3 x4 x5 ∗ (∃ d, owns (c : Thread nD τ) arg7 fullShare d) ∗ (∃ d, owns (c : Thread nD τ) arg8 fullShare d) ∗ (∃ d, owns (c : Thread nD τ) arg9 fullShare d)
        ∗ (iprop(inputsA c arg1 arg2 arg3 arg4 arg5 arg6 x0 x1 x2 x3 x4 x5 ∗ leavesA c arg7 arg8 arg9 x1 x4 x5 (k0_pay1 x0 x2 x3)) -∗ K ⟨⟩))
      ⊢ wp frame (wpE (defs₀ (F := F)) Variants.none c none) E (cc0__pass_a_body i arg1 harg1 arg2 harg2 arg3 harg3 arg4 harg4 arg5 harg5 arg6 harg6 arg7 harg7 arg8 harg8 arg9 harg9) K := by
  simp only [cc0__pass_a_body_eq_skeleton]; unfold cc0__pass_a_body_skel
  unfold inputsA leavesA owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  sl_exec (disch := first | sl_exact hc)
  sl_step
  iapply Hk
  isplitl [H0 H1 H2 H3 H4 H5]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    iexists _; isplitr; swap; (· iexact H5); ipureintro; exact hf5
  isplitl [H6]
  · iexists _; isplitr; swap; (· iexact H6); ipureintro
    rw [View.read_writes_full, View.readAt_full, hf1]
  isplitl [H7]
  · iexists _; isplitr; swap; (· iexact H7); ipureintro
    unfold passA_first.sl.v9 passA_first.sl.HS_1
    rw [View.read_writes_full, View.readCov_full, View.readAt_full, View.readAt_full, View.readAt_full, View.readAt_full, View.readAt_full, View.readAt_full, hf1, hf4, hf5, hf0, hf2, hf3]
  iexists _; isplitr; swap; (· iexact HS); ipureintro
  unfold passA_first.sl.HS_1
  rw [View.read_writes_full, View.readAt_full, View.readAt_full, View.readAt_full, hf0, hf2, hf3]

/-- THE FIRST PASS AT A LATER POINT: the scratch keeps what it holds, and the outputs are computed from it. -/
theorem passA_later (hc : ¬ fillsA i) (h : Vec F S10000x128 .bf16) (E : Set ℕ) (K : PUnit → sProp 𝕄) :
    iprop(inputsA c arg1 arg2 arg3 arg4 arg5 arg6 x0 x1 x2 x3 x4 x5 ∗ (∃ d, owns (c : Thread nD τ) arg7 fullShare d) ∗ (∃ d, owns (c : Thread nD τ) arg8 fullShare d) ∗ owns (c : Thread nD τ) arg9 fullShare h
        ∗ (iprop(inputsA c arg1 arg2 arg3 arg4 arg5 arg6 x0 x1 x2 x3 x4 x5 ∗ leavesA c arg7 arg8 arg9 x1 x4 x5 h) -∗ K ⟨⟩))
      ⊢ wp frame (wpE (defs₀ (F := F)) Variants.none c none) E (cc0__pass_a_body i arg1 harg1 arg2 harg2 arg3 harg3 arg4 harg4 arg5 harg5 arg6 harg6 arg7 harg7 arg8 harg8 arg9 harg9) K := by
  simp only [cc0__pass_a_body_eq_skeleton]; unfold cc0__pass_a_body_skel
  unfold inputsA leavesA owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%fs, %hs, HS⟩, Hk⟩
  sl_exec (disch := first | sl_exact hc)
  sl_step
  iapply Hk
  isplitl [H0 H1 H2 H3 H4 H5]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    iexists _; isplitr; swap; (· iexact H5); ipureintro; exact hf5
  isplitl [H6]
  · iexists _; isplitr; swap; (· iexact H6); ipureintro
    rw [View.read_writes_full, View.readAt_full, hf1]
  isplitl [H7]
  · iexists _; isplitr; swap; (· iexact H7); ipureintro
    rw [View.read_writes_full, View.readAt_full, View.readAt_full, View.readAt_full, View.readAt_full, hf1, hf4, hf5, hs]
  iexists _; isplitr; swap; (· iexact HS); ipureintro; exact hs

end PassA

section PassB

variable (c : Dev nD) (i : grid1.Coords) (arg1 : Memref sig .tc .vmem S1000x10000 .fp8e4m3) (harg1 : arg1.IsWhole) (arg2 : Memref sig .tc .vmem S10000x40 .bf16) (harg2 : arg2.IsWhole)
  (arg3 : Memref sig .tc .vmem S1000x40 .f32) (harg3 : arg3.IsWhole) (arg4 : Memref sig .tc .vmem S10000x40 .fp8e4m3) (harg4 : arg4.IsWhole) (arg5 : Memref sig .tc .smem S1 .f32) (harg5 : arg5.IsWhole)
  (x0 : Vec F S1000x10000 .fp8e4m3) (x1 : Vec F S10000x40 .bf16)

/-- The second pass's two input blocks, owned at their contents. -/
abbrev inputsB : sProp 𝕄 := iprop(owns (c : Thread nD τ) arg1 fullShare x0 ∗ owns (c : Thread nD τ) arg2 fullShare x1)

/-- What the second pass leaves in its output block and its two scratches, these holding `z` and the one word `u`. -/
abbrev leavesB (z : Vec F S10000x40 .fp8e4m3) (u : Elt F .f32) : sProp 𝕄 :=
  iprop(owns (c : Thread nD τ) arg3 fullShare (k1_pay5 x0 z u) ∗ owns (c : Thread nD τ) arg4 fullShare z ∗ owns (c : Thread nD τ) arg5 fullShare (fun _ => u))

/-- THE SECOND PASS AT POINT 0: the scratches, whatever they held, are filled with the scaled second-layer features and with
    the factor that undoes the two scalings; the output block is the product with those features times that factor. -/
theorem passB_first (hc : fillsB i) (E : Set ℕ) (K : PUnit → sProp 𝕄) :
    iprop(inputsB c arg1 arg2 x0 x1 ∗ (∃ d, owns (c : Thread nD τ) arg3 fullShare d) ∗ (∃ d, owns (c : Thread nD τ) arg4 fullShare d) ∗ (∃ d, owns (c : Thread nD τ) arg5 fullShare d)
        ∗ (iprop(inputsB c arg1 arg2 x0 x1 ∗ leavesB c arg3 arg4 arg5 x0 (k1_pay3 x1) (k1_pay4 x1)) -∗ K ⟨⟩))
      ⊢ wp frame (wpE (defs₀ (F := F)) Variants.none c none) E (cc1__pass_b_body i arg1 harg1 arg2 harg2 arg3 harg3 arg4 harg4 arg5 harg5) K := by
  simp only [cc1__pass_b_body_eq_skeleton]; unfold cc1__pass_b_body_skel
  unfold inputsB leavesB owns
  iintro ⟨⟨⟨%f0, %hf0, H0⟩, ⟨%f1, %hf1, H1⟩⟩, ⟨%d2, %f2, -, H2⟩, ⟨%d3, %f3, -, HS⟩, ⟨%d4, %f4, -, HT⟩, Hk⟩
  sl_exec (disch := first | sl_exact hc)
  sl_step
  iapply Hk
  isplitl [H0 H1]
  · isplitl [H0]; · iexists _; isplitr; swap; (· iexact H0); ipureintro; exact hf0
    iexists _; isplitr; swap; (· iexact H1); ipureintro; exact hf1
  isplitl [H2]
  · iexists _; isplitr; swap; (· iexact H2); ipureintro
    unfold passB_first.sl.v5 passB_first.sl.HS_1 passB_first.sl.r_1
    rw [View.read_writes_full, View.readAt_full, View.readCov_full, View.readAt_full, hf0, hf1]
  isplitl [HS]
  · iexists _; isplitr; swap; (· iexact HS); ipureintro
    unfold passB_first.sl.HS_1
    rw [View.read_writes_full, View.readAt_full, hf1]
  iexists _; isplitr; swap; (· iexact HT); ipureintro
  rw [View.read_writes_full, View.readAt_full, hf1]
  rfl

/-- THE SECOND PASS AT A LATER POINT: the scratches keep what they hold, and the output block is computed from them. -/
theorem passB_later (hc : ¬ fillsB i) (z : Vec F S10000x40 .fp8e4m3) (u : Elt F .f32) (E : Set ℕ) (K : PUnit → sProp 𝕄) :
    iprop(inputsB c arg1 arg2 x0 x1 ∗ (∃ d, owns (c : Thread nD τ) arg3 fullShare d) ∗ owns (c : Thread nD τ) arg4 fullShare z ∗ owns (c : Thread nD τ) arg5 fullShare (fun _ => u)
        ∗ (iprop(inputsB c arg1 arg2 x0 x1 ∗ leavesB c arg3 arg4 arg5 x0 z u) -∗ K ⟨⟩))
      ⊢ wp frame (wpE (defs₀ (F := F)) Variants.none c none) E (cc1__pass_b_body i arg1 harg1 arg2 harg2 arg3 harg3 arg4 harg4 arg5 harg5) K := by
  simp only [cc1__pass_b_body_eq_skeleton]; unfold cc1__pass_b_body_skel
  unfold inputsB leavesB owns
  iintro ⟨⟨⟨%f0, %hf0, H0⟩, ⟨%f1, %hf1, H1⟩⟩, ⟨%d2, %f2, -, H2⟩, ⟨%f3, %hz, HS⟩, ⟨%f4, %hu, HT⟩, Hk⟩
  sl_exec (disch := first | sl_exact hc)
  sl_step
  iapply Hk
  isplitl [H0 H1]
  · isplitl [H0]; · iexists _; isplitr; swap; (· iexact H0); ipureintro; exact hf0
    iexists _; isplitr; swap; (· iexact H1); ipureintro; exact hf1
  isplitl [H2]
  · iexists _; isplitr; swap; (· iexact H2); ipureintro
    unfold passB_later.sl.r
    rw [View.read_writes_full, View.readAt_full, View.readAt_full, View.readAt_full, hf0, hz, hu]
  isplitl [HS]
  · iexists _; isplitr; swap; (· iexact HS); ipureintro; exact hz
  iexists _; isplitr; swap; (· iexact HT); ipureintro; exact hu

end PassB

end Cert.KernelIdeal.Body

end
-- ==== Proof.KernelIdealRegions.lean ====
/-
  The two kernel regions' proof data: what each window's block holds at each grid point, what the scratches carry between
  points, and the body obligations.

  A region reads the arrays as it finds them (`V1` for the first, after the two host reshapes; `W2` for the second, with the
  first region's two results in place). The scratches are filled at the first grid point and never change afterwards, so
  each region's invariant is: before point 0 the scratches hold anything, later they hold one fixed content.
-/
module

public import proofs.«01_k».proof.Proof.KernelIdealBody
public import proofs.«01_k».proof.Proof.Gen.KernelIdeal.Regions
public import Idealize.ShloMosaic.Lib.Pipeline.RegionsLoop

@[expose] public section

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A scoped buffer no window stages, held whole at some contents. -/
abbrev some1 (c : Dev nD) (b : Ref sig .tc) : sProp 𝕄 := iprop(∃ f : Buf (Elt F) ((c : Thread nD τ).loc b), ((c : Thread nD τ).loc b) ↦{fullShare} f)

/-! ## The first region -/

/-- The first region's scratch: the hidden features of the whole input. -/
abbrev scH : Memref sig .tc .vmem S10000x128 .bf16 := Memref.whole cc0_scratch0
/-- The first region's first grid point. -/
abbrev pt0 : Fin cfg0.N := ⟨0, by rw [show cfg0.N = 25 from N_0]; decide⟩

/-- Window `w`'s block at point `t` of the first region, read off its array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- What the first region's scratch holds after its first point. -/
def hidden (c : Dev nD) : Vec F S10000x128 .bf16 := k0_pay1 (blkA m c 0 pt0) (blkA m c 2 pt0) (blkA m c 3 pt0)

/-- The scoped buffers that are neither staging buffers nor the scratch of the first region. -/
def restA (c : Dev nD) : sProp 𝕄 :=
  iprop(some1 (F := F) c cc1_stg0_0 ∗ some1 (F := F) c cc1_stg0_1 ∗ some1 (F := F) c cc1_stg1_0 ∗ some1 (F := F) c cc1_stg2_0 ∗ some1 (F := F) c cc1_stg2_1
    ∗ some1 (F := F) c cc1_scratch0 ∗ some1 (F := F) c cc1_scratch1)

/-- The scoped buffers no window of the first region stages: the scratch at anything, and the rest. -/
theorem scopedA_eq (c : Dev nD) :
    (Pipeline.scopedRest (Ix := Unit) (Name := ℕ) (U := UR sig nD τ) (Lvl := ℕ) (Val := Elt F) spec0 c : sProp 𝕄)
      = iprop((∃ d, owns (c : Thread nD τ) scH fullShare d) ∗ restA (F := F) c) := by
  rw [scopedRest0_eq]; unfold restA; simp only [scH, owns_whole]; try rfl

/-- The first region's invariant before point `n`: the scratch at anything first, then at the hidden features. -/
def invA (c : Dev nD) (n : ℕ) : sProp 𝕄 :=
  if n = 0 then Pipeline.scopedRest spec0 c else iprop(owns (c : Thread nD τ) scH fullShare (hidden m c) ∗ restA (F := F) c)

/-- The first region's proof data on core `c`. -/
def datA (c : Dev nD) : Dat τ (Elt F) Unit ℕ (UR sig nD τ) ℕ cfg0 c where
  A w := V1 m c (Pipeline.arrRef spec0 w)
  after w t := match w with
    | ⟨0, _⟩ => blkA m c 0 t
    | ⟨1, _⟩ => blkA m c 1 t
    | ⟨2, _⟩ => blkA m c 2 t
    | ⟨3, _⟩ => blkA m c 3 t
    | ⟨4, _⟩ => blkA m c 4 t
    | ⟨5, _⟩ => blkA m c 5 t
    | ⟨6, _⟩ => k0_pay2 (blkA m c 1 t)
    | ⟨7, _⟩ => k0_pay3 (blkA m c 1 t) (hidden m c) (blkA m c 4 t) (blkA m c 5 t)
  Φ t := invA m c t.val
  q _ := fullShare
  owed _ := 0

/-- The proof data's arrays are the region's entry contents. -/
theorem datA_A (c : Dev nD) (w : Fin cfg0.W) : (datA m c).A w = V1 m c (Pipeline.arrRef spec0 w) := by
  dsimp only [datA]

/-- An input window's buffer is left at its block. -/
theorem afterA_0 (c : Dev nD) (t : Fin cfg0.N) : (datA m c).after 0 t = blkA m c 0 t := by dsimp only [datA]
/-- An input window's buffer is left at its block. -/
theorem afterA_1 (c : Dev nD) (t : Fin cfg0.N) : (datA m c).after 1 t = blkA m c 1 t := by dsimp only [datA]
/-- An input window's buffer is left at its block. -/
theorem afterA_2 (c : Dev nD) (t : Fin cfg0.N) : (datA m c).after 2 t = blkA m c 2 t := by dsimp only [datA]
/-- An input window's buffer is left at its block. -/
theorem afterA_3 (c : Dev nD) (t : Fin cfg0.N) : (datA m c).after 3 t = blkA m c 3 t := by dsimp only [datA]
/-- An input window's buffer is left at its block. -/
theorem afterA_4 (c : Dev nD) (t : Fin cfg0.N) : (datA m c).after 4 t = blkA m c 4 t := by dsimp only [datA]
/-- An input window's buffer is left at its block. -/
theorem afterA_5 (c : Dev nD) (t : Fin cfg0.N) : (datA m c).after 5 t = blkA m c 5 t := by dsimp only [datA]
/-- The first output block is the scaled adjacency block. -/
theorem afterA_6 (c : Dev nD) (t : Fin cfg0.N) : (datA m c).after 6 t = k0_pay2 (blkA m c 1 t) := by dsimp only [datA]
/-- The second output block is the block of second-layer features. -/
theorem afterA_7 (c : Dev nD) (t : Fin cfg0.N) : (datA m c).after 7 t = k0_pay3 (blkA m c 1 t) (hidden m c) (blkA m c 4 t) (blkA m c 5 t) := by dsimp only [datA]

/-- An input window's staging buffer holds its block at every point, whether or not it was fetched there. -/
theorem beforeA (c : Dev nD) (t : Fin cfg0.N) :
    (∀ d, (datA m c).before 0 t d = blkA m c 0 t) ∧ (∀ d, (datA m c).before 1 t d = blkA m c 1 t) ∧ (∀ d, (datA m c).before 2 t d = blkA m c 2 t)
    ∧ (∀ d, (datA m c).before 3 t d = blkA m c 3 t) ∧ (∀ d, (datA m c).before 4 t d = blkA m c 4 t) ∧ (∀ d, (datA m c).before 5 t d = blkA m c 5 t) := by
  refine ⟨fun d => ?_, fun d => ?_, fun d => ?_, fun d => ?_, fun d => ?_, fun d => ?_⟩
  · exact ((datA m c).before_in_eq_fetched 0 rfl (fun _ => rfl) (fun _ _ _ => rfl) (fun t => by rw [afterA_0]; unfold Dat.blockOf blkA; rw [datA_A]) t d).trans
      (by unfold Dat.fetched Dat.blockOf blkA; rw [datA_A]; try rfl)
  · exact ((datA m c).before_in_eq_fetched 1 rfl (fun _ => rfl) (fun _ _ _ => rfl) (fun t => by rw [afterA_1]; unfold Dat.blockOf blkA; rw [datA_A]) t d).trans
      (by unfold Dat.fetched Dat.blockOf blkA; rw [datA_A]; try rfl)
  · exact ((datA m c).before_in_eq_fetched 2 rfl (fun _ => rfl) (fun _ _ _ => rfl) (fun t => by rw [afterA_2]; unfold Dat.blockOf blkA; rw [datA_A]) t d).trans
      (by unfold Dat.fetched Dat.blockOf blkA; rw [datA_A]; try rfl)
  · exact ((datA m c).before_in_eq_fetched 3 rfl (fun _ => rfl) (fun _ _ _ => rfl) (fun t => by rw [afterA_3]; unfold Dat.blockOf blkA; rw [datA_A]) t d).trans
      (by unfold Dat.fetched Dat.blockOf blkA; rw [datA_A]; try rfl)
  · exact ((datA m c).before_in_eq_fetched 4 rfl (fun _ => rfl) (fun _ _ _ => rfl) (fun t => by rw [afterA_4]; unfold Dat.blockOf blkA; rw [datA_A]) t d).trans
      (by unfold Dat.fetched Dat.blockOf blkA; rw [datA_A]; try rfl)
  · exact ((datA m c).before_in_eq_fetched 5 rfl (fun _ => rfl) (fun _ _ _ => rfl) (fun t => by rw [afterA_5]; unfold Dat.blockOf blkA; rw [datA_A]) t d).trans
      (by unfold Dat.fetched Dat.blockOf blkA; rw [datA_A]; try rfl)

/-- What the first body is called with at point `t`. -/
def preA (c : Dev nD) (t : Fin cfg0.N) : sProp 𝕄 :=
  iprop((datA m c).Φ t.castSucc ∗ (datA m c).owesAt () t.castSucc
    ∗ (∃ d, owns (c : Thread nD τ) (st0_0 t) fullShare ((datA m c).before 0 t d))
    ∗ (∃ d, owns (c : Thread nD τ) (st0_1 t) fullShare ((datA m c).before 1 t d))
    ∗ (∃ d, owns (c : Thread nD τ) (st0_2 t) fullShare ((datA m c).before 2 t d))
    ∗ (∃ d, owns (c : Thread nD τ) (st0_3 t) fullShare ((datA m c).before 3 t d))
    ∗ (∃ d, owns (c : Thread nD τ) (st0_4 t) fullShare ((datA m c).before 4 t d))
    ∗ (∃ d, owns (c : Thread nD τ) (st0_5 t) fullShare ((datA m c).before 5 t d))
    ∗ (∃ d, owns (c : Thread nD τ) (st0_6 t) fullShare ((datA m c).before 6 t d))
    ∗ (∃ d, owns (c : Thread nD τ) (st0_7 t) fullShare ((datA m c).before 7 t d)))

/-- What the first body returns at point `t`. -/
def postA (c : Dev nD) (t : Fin cfg0.N) : sProp 𝕄 :=
  iprop((datA m c).Φ t.succ ∗ (datA m c).owesAt () t.succ
    ∗ owns (c : Thread nD τ) (st0_0 t) fullShare ((datA m c).after 0 t)
    ∗ owns (c : Thread nD τ) (st0_1 t) fullShare ((datA m c).after 1 t)
    ∗ owns (c : Thread nD τ) (st0_2 t) fullShare ((datA m c).after 2 t)
    ∗ owns (c : Thread nD τ) (st0_3 t) fullShare ((datA m c).after 3 t)
    ∗ owns (c : Thread nD τ) (st0_4 t) fullShare ((datA m c).after 4 t)
    ∗ owns (c : Thread nD τ) (st0_5 t) fullShare ((datA m c).after 5 t)
    ∗ owns (c : Thread nD τ) (st0_6 t) fullShare ((datA m c).after 6 t)
    ∗ owns (c : Thread nD τ) (st0_7 t) fullShare ((datA m c).after 7 t))

/-- THE FIRST BODY AT ANY POINT: at point 0 it fills the scratch, later it reads what point 0 left there. -/
theorem bodyA (c : Dev nD) (t : Fin cfg0.N) :
    preA m c t ⊢ wp frame (wpE (defs₀ (F := F)) Variants.none c none) Set.univ (bodyAt0 t) (fun _ => postA m c t) := by
  obtain ⟨b0, b1, b2, b3, b4, b5⟩ := beforeA m c t
  unfold preA postA bodyAt0
  simp only [b0, b1, b2, b3, b4, b5]
  rw [show (datA m c).owesAt () t.succ = (datA m c).owesAt () t.castSucc from rfl,
    afterA_0, afterA_1, afterA_2, afterA_3, afterA_4, afterA_5, afterA_6, afterA_7,
    show (datA m c).Φ t.castSucc = invA m c t.val from rfl, show (datA m c).Φ t.succ = invA m c (t.val + 1) from rfl]
  unfold invA
  rw [if_neg (Nat.succ_ne_zero t.val)]
  by_cases hz : t.val = 0
  · rw [if_pos hz, scopedA_eq, show hidden m c = k0_pay1 (blkA m c 0 t) (blkA m c 2 t) (blkA m c 3 t) from by
      rw [show t = pt0 from Fin.ext hz]; rfl]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (passA_first c (grid0.coords t) _ _ _ _ _ _ _ _ _ _ _ _ _ _ _ _ _ _ (blkA m c 0 t) (blkA m c 1 t) (blkA m c 2 t) (blkA m c 3 t) (blkA m c 4 t) (blkA m c 5 t) ((fillsA_iff t).mpr hz) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS HR]; · isplitl [HS] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (passA_later c (grid0.coords t) _ _ _ _ _ _ _ _ _ _ _ _ _ _ _ _ _ _ (blkA m c 0 t) (blkA m c 1 t) (blkA m c 2 t) (blkA m c 3 t) (blkA m c 4 t) (blkA m c 5 t) (fun h => hz ((fillsA_iff t).mp h)) (hidden m c) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS HR]; · isplitl [HS] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The first region's body obligation. -/
theorem obligationA (c : Dev nD) : BodyObligation (datA m c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (bodyA m c t) rfl .rfl fun _ => .rfl

/-- After the last point the first region's invariant gives back the scoped buffers it took. -/
theorem invA_last (c : Dev nD) : (datA m c).Φ (Fin.last cfg0.N) ⊢ (Pipeline.scopedRest (Ix := Unit) (Name := ℕ) (U := UR sig nD τ) (Lvl := ℕ) (Val := Elt F) spec0 c : sProp 𝕄) := by
  rw [show (datA m c).Φ (Fin.last cfg0.N) = invA m c cfg0.N from rfl, show cfg0.N = 25 from N_0, scopedA_eq]
  unfold invA
  rw [if_neg (by decide)]
  iintro ⟨HS, HR⟩
  isplitl [HS]
  · iexists _; iexact HS
  iexact HR

/-! ## Between the regions -/

/-- Core `c`'s unscoped buffers between the two regions: the first region's two results in place. -/
def W2 (c : Dev nD) : Valuation τ sig (Elt F) :=
  Function.update (Function.update (V1 m c) main_v2_0 ((datA m c).arrAt 6 cfg0.N)) main_v2_1 ((datA m c).arrAt 7 cfg0.N)

/-- The first region's first result, where the second region finds it. -/
theorem W2_adj (c : Dev nD) : W2 m c main_v2_0 = (datA m c).arrAt 6 cfg0.N := by
  unfold W2
  rw [Function.update_of_ne (StableHlo.devRef_ne_of_ne (by decide)), Function.update_self]

/-- The first region's second result, where the second region finds it. -/
theorem W2_feat (c : Dev nD) : W2 m c main_v2_1 = (datA m c).arrAt 7 cfg0.N := by
  unfold W2
  rw [Function.update_self]

/-- Every other buffer is as the first region found it. -/
theorem W2_of (c : Dev nD) (r : Ref sig .tc) (h0 : r ≠ main_v2_0) (h1 : r ≠ main_v2_1) : W2 m c r = V1 m c r := by
  unfold W2
  rw [Function.update_of_ne (StableHlo.devRef_ne_of_ne h1), Function.update_of_ne (StableHlo.devRef_ne_of_ne h0)]

/-! ## The second region -/

/-- The second region's scratches: the scaled second-layer features, and one word, the factor undoing the scalings. -/
abbrev scZ : Memref sig .tc .vmem S10000x40 .fp8e4m3 := Memref.whole cc1_scratch0
/-- The second region's one-word scratch, for the factor. -/
abbrev scU : Memref sig .tc .smem S1 .f32 := Memref.whole cc1_scratch1
/-- The second region's first grid point. -/
abbrev pt1 : Fin cfg1.N := ⟨0, by rw [show cfg1.N = 10 from N_1]; decide⟩

/-- Window `w`'s block at point `t` of the second region, read off its array as the region finds it. -/
def blkB (c : Dev nD) (w : Fin cfg1.W) (t : Fin cfg1.N) : ((cfg1.win w).xblock (cfg1.grid.coords t)).Idx → Elt F (cfg1.win w).elt :=
  ((cfg1.win w).blk t).view.read (Elt F) (W2 m c (Pipeline.arrRef spec1 w))

/-- What the second region's scratches hold after its first point. -/
def scaled (c : Dev nD) : Vec F S10000x40 .fp8e4m3 := k1_pay3 (blkB m c 1 pt1)
/-- The factor the second region's one-word scratch holds after its first point. -/
def factor (c : Dev nD) : Elt F .f32 := k1_pay4 (blkB m c 1 pt1)

/-- The scoped buffers that are neither staging buffers nor scratches of the second region. -/
def restB (c : Dev nD) : sProp 𝕄 :=
  iprop(some1 (F := F) c cc0_stg0_0 ∗ some1 (F := F) c cc0_stg1_0 ∗ some1 (F := F) c cc0_stg1_1 ∗ some1 (F := F) c cc0_stg2_0 ∗ some1 (F := F) c cc0_stg3_0 ∗ some1 (F := F) c cc0_stg4_0
    ∗ some1 (F := F) c cc0_stg5_0 ∗ some1 (F := F) c cc0_stg6_0 ∗ some1 (F := F) c cc0_stg6_1 ∗ some1 (F := F) c cc0_stg7_0 ∗ some1 (F := F) c cc0_stg7_1 ∗ some1 (F := F) c cc0_scratch0)

/-- The scoped buffers no window of the second region stages give its scratches at anything, and the rest; -/
theorem scopedB_open (c : Dev nD) :
    (Pipeline.scopedRest (Ix := Unit) (Name := ℕ) (U := UR sig nD τ) (Lvl := ℕ) (Val := Elt F) spec1 c : sProp 𝕄)
      ⊢ iprop((∃ d, owns (c : Thread nD τ) scZ fullShare d) ∗ (∃ d, owns (c : Thread nD τ) scU fullShare d) ∗ restB (F := F) c) := by
  rw [scopedRest1_eq]; unfold restB; simp only [scZ, scU, owns_whole]
  iintro ⟨K0, K1, K2, K3, K4, K5, K6, K7, K8, K9, K10, K11, HZ, HU⟩
  isplitl [HZ]; · iexact HZ
  isplitl [HU]; · iexact HU
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  iexact K11

/-- The unstaged scoped buffers are made of the scratches and the rest. -/
theorem scopedB_close (c : Dev nD) :
    iprop((∃ d, owns (c : Thread nD τ) scZ fullShare d) ∗ (∃ d, owns (c : Thread nD τ) scU fullShare d) ∗ restB (F := F) c)
      ⊢ (Pipeline.scopedRest (Ix := Unit) (Name := ℕ) (U := UR sig nD τ) (Lvl := ℕ) (Val := Elt F) spec1 c : sProp 𝕄) := by
  rw [scopedRest1_eq]; unfold restB; simp only [scZ, scU, owns_whole]
  iintro ⟨HZ, HU, K0, K1, K2, K3, K4, K5, K6, K7, K8, K9, K10, K11⟩
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [HZ]; · iexact HZ
  iexact HU

/-- The second region's invariant before point `n`: the scratches at anything first, then at the scaled features and the factor. -/
def invB (c : Dev nD) (n : ℕ) : sProp 𝕄 :=
  if n = 0 then Pipeline.scopedRest spec1 c
  else iprop(owns (c : Thread nD τ) scZ fullShare (scaled m c) ∗ owns (c : Thread nD τ) scU fullShare (fun _ => factor m c) ∗ restB (F := F) c)

/-- The second region's proof data on core `c`. -/
def datB (c : Dev nD) : Dat τ (Elt F) Unit ℕ (UR sig nD τ) ℕ cfg1 c where
  A w := W2 m c (Pipeline.arrRef spec1 w)
  after w t := match w with
    | ⟨0, _⟩ => blkB m c 0 t
    | ⟨1, _⟩ => blkB m c 1 t
    | ⟨2, _⟩ => k1_pay5 (blkB m c 0 t) (scaled m c) (factor m c)
  Φ t := invB m c t.val
  q _ := fullShare
  owed _ := 0

/-- The proof data's arrays are the region's entry contents. -/
theorem datB_A (c : Dev nD) (w : Fin cfg1.W) : (datB m c).A w = W2 m c (Pipeline.arrRef spec1 w) := by
  dsimp only [datB]

/-- An input window's buffer is left at its block. -/
theorem afterB_0 (c : Dev nD) (t : Fin cfg1.N) : (datB m c).after 0 t = blkB m c 0 t := by dsimp only [datB]
/-- An input window's buffer is left at its block. -/
theorem afterB_1 (c : Dev nD) (t : Fin cfg1.N) : (datB m c).after 1 t = blkB m c 1 t := by dsimp only [datB]
/-- The output block is the product of the adjacency block with the scaled features, times the factor. -/
theorem afterB_2 (c : Dev nD) (t : Fin cfg1.N) : (datB m c).after 2 t = k1_pay5 (blkB m c 0 t) (scaled m c) (factor m c) := by dsimp only [datB]

/-- An input window's staging buffer holds its block at every point, whether or not it was fetched there. -/
theorem beforeB (c : Dev nD) (t : Fin cfg1.N) :
    (∀ d, (datB m c).before 0 t d = blkB m c 0 t) ∧ (∀ d, (datB m c).before 1 t d = blkB m c 1 t) := by
  refine ⟨fun d => ?_, fun d => ?_⟩
  · exact ((datB m c).before_in_eq_fetched 0 rfl (fun _ => rfl) (fun _ _ _ => rfl) (fun t => by rw [afterB_0]; unfold Dat.blockOf blkB; rw [datB_A]) t d).trans
      (by unfold Dat.fetched Dat.blockOf blkB; rw [datB_A]; try rfl)
  · exact ((datB m c).before_in_eq_fetched 1 rfl (fun _ => rfl) (fun _ _ _ => rfl) (fun t => by rw [afterB_1]; unfold Dat.blockOf blkB; rw [datB_A]) t d).trans
      (by unfold Dat.fetched Dat.blockOf blkB; rw [datB_A]; try rfl)

/-- What the second body is called with at point `t`. -/
def preB (c : Dev nD) (t : Fin cfg1.N) : sProp 𝕄 :=
  iprop((datB m c).Φ t.castSucc ∗ (datB m c).owesAt () t.castSucc
    ∗ (∃ d, owns (c : Thread nD τ) (st1_0 t) fullShare ((datB m c).before 0 t d))
    ∗ (∃ d, owns (c : Thread nD τ) (st1_1 t) fullShare ((datB m c).before 1 t d))
    ∗ (∃ d, owns (c : Thread nD τ) (st1_2 t) fullShare ((datB m c).before 2 t d)))

/-- What the second body returns at point `t`. -/
def postB (c : Dev nD) (t : Fin cfg1.N) : sProp 𝕄 :=
  iprop((datB m c).Φ t.succ ∗ (datB m c).owesAt () t.succ
    ∗ owns (c : Thread nD τ) (st1_0 t) fullShare ((datB m c).after 0 t)
    ∗ owns (c : Thread nD τ) (st1_1 t) fullShare ((datB m c).after 1 t)
    ∗ owns (c : Thread nD τ) (st1_2 t) fullShare ((datB m c).after 2 t))

/-- THE SECOND BODY AT ANY POINT: at point 0 it fills the scratches, later it reads what point 0 left there. -/
theorem bodyB (c : Dev nD) (t : Fin cfg1.N) :
    preB m c t ⊢ wp frame (wpE (defs₀ (F := F)) Variants.none c none) Set.univ (bodyAt1 t) (fun _ => postB m c t) := by
  obtain ⟨b0, b1⟩ := beforeB m c t
  unfold preB postB bodyAt1
  simp only [b0, b1]
  rw [show (datB m c).owesAt () t.succ = (datB m c).owesAt () t.castSucc from rfl, afterB_0, afterB_1, afterB_2,
    show (datB m c).Φ t.castSucc = invB m c t.val from rfl, show (datB m c).Φ t.succ = invB m c (t.val + 1) from rfl]
  unfold invB
  rw [if_neg (Nat.succ_ne_zero t.val)]
  by_cases hz : t.val = 0
  · rw [if_pos hz, show scaled m c = k1_pay3 (blkB m c 1 t) from by rw [show t = pt1 from Fin.ext hz]; rfl,
      show factor m c = k1_pay4 (blkB m c 1 t) from by rw [show t = pt1 from Fin.ext hz]; rfl]
    iintro ⟨HA, Ho, ⟨%d0, H0⟩, ⟨%d1, H1⟩, ⟨%d2, H2⟩⟩
    ihave HA' := (scopedB_open (F := F) c) $$ HA
    icases HA' with ⟨HZ, HU, HR⟩
    iapply (passB_first c (grid1.coords t) _ _ _ _ _ _ _ _ _ _ (blkB m c 0 t) (blkB m c 1 t) ((fillsB_iff t).mpr hz) Set.univ _)
    isplitl [H0 H1]; · isplitl [H0] <;> iassumption
    isplitl [H2]; · iexists _; iexact H2
    isplitl [HZ]; · iexact HZ
    isplitl [HU]; · iexact HU
    iintro ⟨⟨H0, H1⟩, H2, HZ, HU⟩
    isplitl [HZ HU HR]
    · isplitl [HZ]; · iexact HZ
      isplitl [HU] <;> iassumption
    isplitl [Ho]; · iexact Ho
    isplitl [H0]; · iexact H0
    isplitl [H1]; · iexact H1
    iexact H2
  · rw [if_neg hz]
    iintro ⟨⟨HZ, HU, HR⟩, Ho, ⟨%d0, H0⟩, ⟨%d1, H1⟩, ⟨%d2, H2⟩⟩
    iapply (passB_later c (grid1.coords t) _ _ _ _ _ _ _ _ _ _ (blkB m c 0 t) (blkB m c 1 t) (fun h => hz ((fillsB_iff t).mp h)) (scaled m c) (factor m c) Set.univ _)
    isplitl [H0 H1]; · isplitl [H0] <;> iassumption
    isplitl [H2]; · iexists _; iexact H2
    isplitl [HZ]; · iexact HZ
    isplitl [HU]; · iexact HU
    iintro ⟨⟨H0, H1⟩, H2, HZ, HU⟩
    isplitl [HZ HU HR]
    · isplitl [HZ]; · iexact HZ
      isplitl [HU] <;> iassumption
    isplitl [Ho]; · iexact Ho
    isplitl [H0]; · iexact H0
    isplitl [H1]; · iexact H1
    iexact H2

/-- The second region's body obligation. -/
theorem obligationB (c : Dev nD) : BodyObligation (datB m c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (bodyB m c t) rfl .rfl fun _ => .rfl

/-- After the last point the second region's invariant gives back the scoped buffers it took. -/
theorem invB_last (c : Dev nD) : (datB m c).Φ (Fin.last cfg1.N) ⊢ (Pipeline.scopedRest (Ix := Unit) (Name := ℕ) (U := UR sig nD τ) (Lvl := ℕ) (Val := Elt F) spec1 c : sProp 𝕄) := by
  rw [show (datB m c).Φ (Fin.last cfg1.N) = invB m c cfg1.N from rfl, show cfg1.N = 10 from N_1]
  unfold invB
  rw [if_neg (by decide)]
  iintro ⟨HZ, HU, HR⟩
  iapply (scopedB_close (F := F) c)
  isplitl [HZ]; · iexists _; iexact HZ
  isplitl [HU]; · iexists _; iexact HU
  iexact HR

/-- Core `c`'s unscoped buffers at the end: the second region's result in place. -/
def W3 (c : Dev nD) : Valuation τ sig (Elt F) := Function.update (W2 m c) main_v3 ((datB m c).arrAt 2 cfg1.N)

/-- The result array at the end is what the second region leaves. -/
theorem W3_out (c : Dev nD) : W3 m c main_v3 = (datB m c).arrAt 2 cfg1.N := by
  unfold W3
  rw [Function.update_self]

/-- Every other buffer is as the second region found it. -/
theorem W3_of (c : Dev nD) (r : Ref sig .tc) (h : r ≠ main_v3) : W3 m c r = W2 m c r := by
  unfold W3
  rw [Function.update_of_ne (StableHlo.devRef_ne_of_ne h)]

/-- No item writes an argument: it reaches the end as launched. -/
theorem W3_arg (c : Dev nD) (r : Ref sig .tc) (h : r ∉ [main_v0, main_v1, main_v2_0, main_v2_1, main_v3]) : W3 m c r = m ((c : Thread nD τ).loc r) := by
  simp only [List.mem_cons, List.not_mem_nil, or_false, not_or] at h
  rw [W3_of m c r h.2.2.2.2, W2_of m c r h.2.2.1 h.2.2.2.1]
  exact (V1_of m c r (by simp only [List.mem_cons, List.not_mem_nil, or_false, not_or]; exact ⟨h.1, h.2.1⟩)).trans rfl

end Cert.KernelIdeal.Region

end
-- ==== Proof.KernelIdealRun.lean ====
/-
  The whole program's run: two host reshapes, the first region, the second region.

  The thread state between the items is every unscoped buffer held at a valuation (`V1`, `W2`, `W3`) beside a core that owes
  nothing. Each region takes its windows' arrays out of that state and puts them back at what it left in them.
-/
module

public import proofs.«01_k».proof.Proof.KernelIdealRegions
public import Idealize.ShloMosaic.Lib.Pipeline.RegionArrays

@[expose] public section

set_option maxRecDepth 16384

noncomputable section

namespace Cert.KernelIdeal.Run

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two regions' proof data, as one family. -/
def dats : (p : Fin 2) → (c : Dev nD) → Dat τ (Elt F) Unit ℕ (UR sig nD τ) ℕ (cfgs p) c
  | ⟨0, _⟩, c => datA m c
  | ⟨1, _⟩, c => datB m c

/-- No core owes another anything: no level is assigned. -/
abbrev L : GSem nD τ sig → Finset Unit := fun _ => ∅
/-- Every counter is at the one level. -/
abbrev lv : GSem nD τ sig → Unit → ℕ := fun _ _ => 0

/-- What rides beside the buffers: a core owing nothing. -/
abbrev owesNone (c : Dev nD) : sProp 𝕄 := iprop(∃ W, owes (c : Thread nD τ) (0 : CellTallies nD τ sig Unit) W)

/-- After the first region every array of it is as `W2` has it: its inputs unchanged, its results what the blocks made. -/
theorem arrA (c : Dev nD) (w : Fin cfg0.W) : (datA m c).arrAt w cfg0.N = W2 m c (Pipeline.arrRef spec0 w) := by
  have hin : ∀ w : Fin cfg0.W, (cfg0.win w).isOut = false → Pipeline.arrRef spec0 w ≠ main_v2_0 → Pipeline.arrRef spec0 w ≠ main_v2_1 →
      (datA m c).arrAt w cfg0.N = W2 m c (Pipeline.arrRef spec0 w) := fun w h h0 h1 => by
    rw [W2_of m c _ h0 h1, ← datA_A]; exact Dat.arrAt_in _ w h _
  obtain ⟨w, hw⟩ := w
  rcases w with _|_|_|_|_|_|_|_|w
  · exact hin 0 rfl (by decide) (by decide)
  · exact hin 1 rfl (by decide) (by decide)
  · exact hin 2 rfl (by decide) (by decide)
  · exact hin 3 rfl (by decide) (by decide)
  · exact hin 4 rfl (by decide) (by decide)
  · exact hin 5 rfl (by decide) (by decide)
  · exact (W2_adj m c).symm
  · exact (W2_feat m c).symm
  · exact absurd (show w + 8 < 8 from hw) (by omega)

/-- After the second region every array of it is as `W3` has it. -/
theorem arrB (c : Dev nD) (w : Fin cfg1.W) : (datB m c).arrAt w cfg1.N = W3 m c (Pipeline.arrRef spec1 w) := by
  have hin : ∀ w : Fin cfg1.W, (cfg1.win w).isOut = false → Pipeline.arrRef spec1 w ≠ main_v3 →
      (datB m c).arrAt w cfg1.N = W3 m c (Pipeline.arrRef spec1 w) := fun w h h0 => by
    rw [W3_of m c _ h0, ← datB_A]; exact Dat.arrAt_in _ w h _
  obtain ⟨w, hw⟩ := w
  rcases w with _|_|_|w
  · exact hin 0 rfl (by decide)
  · exact hin 1 rfl (by decide)
  · exact (W3_out m c).symm
  · exact absurd (show w + 3 < 3 from hw) (by omega)

set_option backward.isDefEq.respectTransparency.types false in
/-- THE FIRST REGION: entered with the unscoped buffers at `V1`, left with them at `W2`. -/
def regA : Pipeline.RegionSeg (pcfgs (F := F)) adm (dats m) () defs₀ Variants.none L lv 0 where
  win := launch0.win.to₀
  block_pos := launch0.block_pos
  stage_whole := launch0.stage_whole
  K := PEmpty
  osem := fun k => k.elim
  ho := Pipeline.OwnSemFacts.none _
  hbody c := (obligationA m c).loose
  hwaits := Pipeline.hwaits_of_owed_zero _ _ _ _ L lv 0 fun _ _ => rfl
  pre c := iprop(StableHlo.held (c : Thread nD τ) (Pipeline.ucRefs τ sig) (V1 m c) ∗ owesNone (F := F) c)
  post c := iprop(StableHlo.held (c : Thread nD τ) (Pipeline.ucRefs τ sig) (W2 m c) ∗ owesNone (F := F) c)
  X _ := iprop(emp)
  Y _ := iprop(emp)
  Z c := Pipeline.unscopedRest (Ix := Unit) (Name := ℕ) (U := UR sig nD τ) (Lvl := ℕ) spec0 c (fun b => V1 m c b)
  hentry c := by
    rw [Pipeline.ownSems0_none, Pipeline.prefHeld_of_none _ rfl, ← Pipeline.unscopedBufs_held (Ix := Unit) (Name := ℕ) (U := UR sig nD τ) (Lvl := ℕ) c (V1 m c)]
    have hsplit := Pipeline.arrays_of_unscopedBufs (pcfgs (F := F)) adm (dats m) (p := 0) launch0.win launch0.arr_whole c
      ((datA m c).share_full fun _ => rfl) (fun b => V1 m c b) (datA_A m c)
    iintro ⟨⟨Hub, HO⟩, -, -⟩
    ihave H := hsplit $$ Hub
    icases H with ⟨Ha, Hrest⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from (show invA m c 0 = _ from by unfold invA; exact if_pos rfl)]
    iintro ⟨-, -, Hr⟩
    iexact Hr
  hout c := (invA_last m c).trans (by
    rw [Pipeline.ownSems0_none]
    iintro Hr
    isplitr; · iempintro
    isplitr; · iempintro
    iexact Hr)
  hexit c := by
    have hjoin := Pipeline.unscopedBufs_of_arrays (pcfgs (F := F)) adm (Ix := Unit) (Name := ℕ) (U := UR sig nD τ) (Lvl := ℕ) (p := 0)
      launch0.win launch0.arr_whole c (dats m) ((datA m c).share_full fun _ => rfl) (fun b => V1 m c b) (fun b => W2 m c b)
      ((datA m c).arrAt · cfg0.N) (arrA m c)
      (fun b hb => W2_of m c b (fun h => hb (h ▸ (by decide : main_v2_0 ∈ Finset.univ.image (Pipeline.arrRef spec0))))
        (fun h => hb (h ▸ (by decide : main_v2_1 ∈ Finset.univ.image (Pipeline.arrRef spec0)))))
    rw [← Pipeline.unscopedBufs_held (Ix := Unit) (Name := ℕ) (U := UR sig nD τ) (Lvl := ℕ) c (W2 m c)]
    iintro ⟨Ha, HO, -, Hrest⟩
    imodintro
    isplitl [Ha Hrest]
    · iapply hjoin; isplitl [Ha]; · iexact Ha
      iexact Hrest
    unfold Dat.owesAt Pipeline.owesWithin
    icases HO with ⟨%W, -, HO⟩; iexists W; iexact HO

set_option backward.isDefEq.respectTransparency.types false in
/-- THE SECOND REGION: entered with the unscoped buffers at `W2`, left with them at `W3`. -/
def regB : Pipeline.RegionSeg (pcfgs (F := F)) adm (dats m) () defs₀ Variants.none L lv 1 where
  win := launch1.win.to₀
  block_pos := launch1.block_pos
  stage_whole := launch1.stage_whole
  K := PEmpty
  osem := fun k => k.elim
  ho := Pipeline.OwnSemFacts.none _
  hbody c := (obligationB m c).loose
  hwaits := Pipeline.hwaits_of_owed_zero _ _ _ _ L lv 1 fun _ _ => rfl
  pre c := iprop(StableHlo.held (c : Thread nD τ) (Pipeline.ucRefs τ sig) (W2 m c) ∗ owesNone (F := F) c)
  post c := iprop(StableHlo.held (c : Thread nD τ) (Pipeline.ucRefs τ sig) (W3 m c) ∗ owesNone (F := F) c)
  X _ := iprop(emp)
  Y _ := iprop(emp)
  Z c := Pipeline.unscopedRest (Ix := Unit) (Name := ℕ) (U := UR sig nD τ) (Lvl := ℕ) spec1 c (fun b => W2 m c b)
  hentry c := by
    rw [Pipeline.ownSems0_none, Pipeline.prefHeld_of_none _ rfl, ← Pipeline.unscopedBufs_held (Ix := Unit) (Name := ℕ) (U := UR sig nD τ) (Lvl := ℕ) c (W2 m c)]
    have hsplit := Pipeline.arrays_of_unscopedBufs (pcfgs (F := F)) adm (dats m) (p := 1) launch1.win launch1.arr_whole c
      ((datB m c).share_full fun _ => rfl) (fun b => W2 m c b) (datB_A m c)
    iintro ⟨⟨Hub, HO⟩, -, -⟩
    ihave H := hsplit $$ Hub
    icases H with ⟨Ha, Hrest⟩
    imodintro
    isplitl [Ha]; · iexact Ha
    isplitr; · iempintro
    isplitl [HO]
    · unfold Dat.owesAt Pipeline.owesWithin
      icases HO with ⟨%W, HO⟩; iexists W; isplitr; · ipureintro; exact fun _ _ => Or.inl trivial
      iexact HO
    isplitr; · iempintro
    iexact Hrest
  hin c := by
    rw [show (dats m 1 c).Φ 0 = Pipeline.scopedRest spec1 c from (show invB m c 0 = _ from by unfold invB; exact if_pos rfl)]
    iintro ⟨-, -, Hr⟩
    iexact Hr
  hout c := (invB_last m c).trans (by
    rw [Pipeline.ownSems0_none]
    iintro Hr
    isplitr; · iempintro
    isplitr; · iempintro
    iexact Hr)
  hexit c := by
    have hjoin := Pipeline.unscopedBufs_of_arrays (pcfgs (F := F)) adm (Ix := Unit) (Name := ℕ) (U := UR sig nD τ) (Lvl := ℕ) (p := 1)
      launch1.win launch1.arr_whole c (dats m) ((datB m c).share_full fun _ => rfl) (fun b => W2 m c b) (fun b => W3 m c b)
      ((datB m c).arrAt · cfg1.N) (arrB m c)
      (fun b hb => W3_of m c b (fun h => hb (h ▸ (by decide : main_v3 ∈ Finset.univ.image (Pipeline.arrRef spec1)))))
    rw [← Pipeline.unscopedBufs_held (Ix := Unit) (Name := ℕ) (U := UR sig nD τ) (Lvl := ℕ) c (W3 m c)]
    iintro ⟨Ha, HO, -, Hrest⟩
    imodintro
    isplitl [Ha Hrest]
    · iapply hjoin; isplitl [Ha]; · iexact Ha
      iexact Hrest
    unfold Dat.owesAt Pipeline.owesWithin
    icases HO with ⟨%W, -, HO⟩; iexists W; iexact HO

set_option backward.isDefEq.respectTransparency.types false in
/-- THE RUN: from memory `m` with every counter zero, every weakly fair execution terminates; every unscoped buffer ends at
    `W3` — so each argument as launched, the result at the second region's output — and every counter is zero. -/
theorem run : θ_run defs (onTc (τ := τ) (main (F := F))) ⟨m, fun _ => 0, ρ⟩ (fun r =>
    (∀ (c : Dev nD) (b : Ref sig .tc), b.isScoped = false → r.2.mem ((c.tc : Thread nD τ).loc b) = W3 m c b) ∧ r.2.sem = fun _ => 0) := by
  classical
  refine Pipeline.θ_run_regions_kit_dev_sems (pcfgs (F := F)) adm (dats m) () cellOf_inj emb₁ defs₀ Variants.none L lv m ρ main
    (segs m Variants.none L lv (fun _ => owesNone (F := F)) () (dats m) (regA m) (regB m))
    (fun c Q => by
      rewrite [main_chain c, Pipeline.Seg.run_eq_chain,
        show (segs m Variants.none L lv (fun _ => owesNone (F := F)) () (dats m) (regA m) (regB m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ owesNone (F := F) c))
    (Tₙ := fun c => StableHlo.held (c : Thread nD τ) (Pipeline.ucRefs τ sig) (W3 m c))
    (hch := fun c => ⟨.rfl, .rfl, .rfl, .rfl⟩)
    (hinit := ?_) (QY := fun c s => ∀ b : Ref sig .tc, b.isScoped = false → s.mem ((c.tc : Thread nD τ).loc b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hb, -, HO, -, -, -⟩, -⟩
    imodintro
    isplitl [Hb]; · iexact Hb
    iexists _; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      intro b hb
      exact h (Proc.devRef .tc b) (Pipeline.devRef_mem_ucRefs hb)
    · iexact HSI

/-- What the claims read off the run: every argument as launched, the result at the second region's output, every counter zero. -/
theorem run_main : θ_run defs (onTc (τ := τ) (main (F := F))) ⟨m, fun _ => 0, ρ⟩ (fun r =>
    (∀ c : Dev nD, r.2.mem ((c.tc : Thread nD τ).loc main_v3) = (datB m c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun _ ⟨h, hz⟩ => ⟨fun c => ⟨(h c main_v3 rfl).trans (W3_out m c),
    (h c main_arg0 rfl).trans (W3_arg m c main_arg0 (by decide)), (h c main_arg1 rfl).trans (W3_arg m c main_arg1 (by decide)),
    (h c main_arg2 rfl).trans (W3_arg m c main_arg2 (by decide)), (h c main_arg3 rfl).trans (W3_arg m c main_arg3 (by decide)),
    (h c main_arg4 rfl).trans (W3_arg m c main_arg4 (by decide)), (h c main_arg5 rfl).trans (W3_arg m c main_arg5 (by decide))⟩, hz⟩) (run m ρ)

end Cert.KernelIdeal.Run

end
-- ==== Proof.KernelIdealArrays.lean ====
/-
  What the first kernel region leaves in its two result arrays, over the argument arrays, with exact arithmetic: the adjacency
  matrix times 80000, and the second-layer features.
-/
module

public import proofs.«01_k».proof.Proof.KernelIdealRegions
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Arrays

open Cert.KernelIdeal Cert.KernelIdeal.Gen Cert.KernelIdeal.Body Cert.KernelIdeal.Region
open Idealize.ShloMosaic Idealize.ShloMosaic.TcCoe Idealize.SL.Sem
open Idealize.ShloMosaic.Pipeline (Dat)

/-! ## The reference's two stages -/

/-- The second-layer features: `max(Adj (x W1 + b1), 0) W2 + b2`, in the reference's own operations. -/
def feats (x : FVec Ideal S10000x128 .f32) (A : FVec Ideal S10000x10000 .f32) (U : FVec Ideal S128x128 .f32) (b : FVec Ideal S128 .f32)
    (W : FVec Ideal S128x40 .f32) (d : FVec Ideal S40 .f32) : FVec Ideal S10000x40 .f32 :=
  addf (Host.dotGeneral Cert.ReferenceIdeal.dot_S10000x128_S128x40_S10000x40_1_0_0_1_n_n none
      (maximumf (Host.dotGeneral Cert.ReferenceIdeal.dot_S10000x10000_S10000x128_S10000x128_1_0_0_1_n_n none A
          (addf (Host.dotGeneral Cert.ReferenceIdeal.dot_S10000x128_S128x128_S10000x128_1_0_0_1_n_n none x U)
            (broadcastInDim S10000x128 ![0, 1] Cert.ReferenceIdeal.Gen.bcast_S1x128_S10000x128_0_1
              (broadcastInDim S1x128 ![1] Cert.ReferenceIdeal.Gen.bcast_S128_S1x128_1 b))))
        (broadcastInDim S10000x128 ![] Cert.ReferenceIdeal.Gen.bcast_S_S10000x128 (constant Cert.ReferenceIdeal.S_ .f32 0x00000000#32))) W)
    (broadcastInDim S10000x40 ![0, 1] Cert.ReferenceIdeal.Gen.bcast_S1x40_S10000x40_0_1
      (broadcastInDim S1x40 ![1] Cert.ReferenceIdeal.Gen.bcast_S40_S1x40_1 d))

/-- The reference's result: the adjacency times the second-layer features. -/
def result (A : FVec Ideal S10000x10000 .f32) (z : FVec Ideal S10000x40 .f32) : FVec Ideal S10000x40 .f32 :=
  Host.dotGeneral Cert.ReferenceIdeal.dot_S10000x10000_S10000x40_S10000x40_1_0_0_1_n_n none A z

variable (m : (ℓ : Loc nD τ sig) → Buf (Elt Ideal) ℓ)

/-! ## The first region -/

/-- Where the first region's blocks lie: point `t` has the `t`-th 400 rows of the adjacency and of both results, and the
    other operands whole. -/
theorem idx0 : ∀ t : Fin cfg0.N, win0_0.index t = ![0, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- The first bias, as the region finds it: the argument as one row. -/
theorem bias1 (c : Dev nD) : V1 m c main_v0 = shapeCast S1x128 (m ((c : Thread nD τ).loc main_arg3)) shapeCasts_S128_S1x128 := by
  after_results; rfl

/-- The second bias likewise. -/
theorem bias2 (c : Dev nD) : V1 m c main_v1 = shapeCast S1x40 (m ((c : Thread nD τ).loc main_arg5)) shapeCasts_S40_S1x40 := by
  after_results; rfl

/-- The input features, held whole by the first region, are the argument. -/
theorem wholeX (c : Dev nD) (t : Fin cfg0.N) : blkA m c 0 t = m ((c : Thread nD τ).loc main_arg0) := by
  rw [show m ((c : Thread nD τ).loc main_arg0) = V1 m c main_arg0 from (V1_of m c main_arg0 (by decide)).symm]
  blk_ext! [blkA, idx0 t]
/-- The first layer's weights, held whole, are the argument. -/
theorem wholeU (c : Dev nD) (t : Fin cfg0.N) : blkA m c 2 t = m ((c : Thread nD τ).loc main_arg2) := by
  rw [show m ((c : Thread nD τ).loc main_arg2) = V1 m c main_arg2 from (V1_of m c main_arg2 (by decide)).symm]
  blk_ext! [blkA, idx0 t]
/-- The first bias, held whole, is the argument as one row. -/
theorem wholeB (c : Dev nD) (t : Fin cfg0.N) : blkA m c 3 t = shapeCast S1x128 (m ((c : Thread nD τ).loc main_arg3)) shapeCasts_S128_S1x128 := by
  rw [← bias1]
  blk_ext! [blkA, idx0 t]
/-- The second layer's weights, held whole, are the argument. -/
theorem wholeW (c : Dev nD) (t : Fin cfg0.N) : blkA m c 4 t = m ((c : Thread nD τ).loc main_arg4) := by
  rw [show m ((c : Thread nD τ).loc main_arg4) = V1 m c main_arg4 from (V1_of m c main_arg4 (by decide)).symm]
  blk_ext! [blkA, idx0 t]
/-- The second bias, held whole, is the argument as one row. -/
theorem wholeD (c : Dev nD) (t : Fin cfg0.N) : blkA m c 5 t = shapeCast S1x40 (m ((c : Thread nD τ).loc main_arg5)) shapeCasts_S40_S1x40 := by
  rw [← bias2]
  blk_ext! [blkA, idx0 t]

/-- The scaled adjacency: every entry times 80000. -/
def scaledAdj (A : FVec Ideal S10000x10000 .f32) : FVec Ideal S10000x10000 .f32 := fun i => A i * Ideal.ofBits .f32 0x479C4000#32

/-- A block of the first result is the scaled adjacency there. -/
theorem pointAdj (c : Dev nD) (t : Fin cfg0.N) (y) : k0_pay2 (blkA m c 1 t) y
    = scaledAdj (m ((c : Thread nD τ).loc main_arg1)) (((cfg0.win 6).blk t).view.emb y) := by
  pointwise [k0_pay2, scaledAdj]
  blk_point [blkA, idx0 t]

/-- A block of the second result is the features there. -/
theorem pointFeat (c : Dev nD) (t : Fin cfg0.N) (y) : k0_pay3 (blkA m c 1 t) (Region.hidden m c) (blkA m c 4 t) (blkA m c 5 t) y
    = feats (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 7).blk t).view.emb y) := by
  unfold Region.hidden
  rw [wholeX, wholeU, wholeB, wholeW, wholeD]
  pointwise [k0_pay3, k0_pay1, feats]
  blk_point [blkA, idx0 t]

/-- The first result array after the first region. -/
theorem finalAdj (c : Dev nD) : (datA m c).arrAt 6 cfg0.N = scaledAdj (m ((c : Thread nD τ).loc main_arg1)) := by
  refine (datA m c).arrAt_eq_of_covers 6 _ (by decide +kernel) fun t _ y => ?_
  blk_simp
  rw [afterA_6]
  exact pointAdj m c t y

/-- The second result array after the first region. -/
theorem finalFeat (c : Dev nD) : (datA m c).arrAt 7 cfg0.N
    = feats (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (datA m c).arrAt_eq_of_covers 7 _ (by decide +kernel) fun t _ y => ?_
  blk_simp
  rw [afterA_7]
  exact pointFeat m c t y

end Cert.KernelIdeal.Arrays

end
-- ==== Proof.KernelIdealOutput.lean ====
/-
  What the second kernel region leaves in its result array, over the argument arrays, with exact arithmetic: the product of
  the scaled adjacency with the scaled features, times one factor.
-/
module

public import proofs.«01_k».proof.Proof.KernelIdealArrays

@[expose] public section

set_option maxRecDepth 16384

noncomputable section

namespace Cert.KernelIdeal.Output

open Cert.KernelIdeal Cert.KernelIdeal.Gen Cert.KernelIdeal.Body Cert.KernelIdeal.Region Cert.KernelIdeal.Arrays
open Idealize.ShloMosaic Idealize.ShloMosaic.TcCoe Idealize.SL.Sem
open Idealize.ShloMosaic.Pipeline (Dat)

/-- Where the second region's blocks lie: point `t` has the `t`-th 1000 rows of the scaled adjacency and of the result, and
    the features whole. -/
theorem idx1 : ∀ t : Fin cfg1.N, win1_0.index t = ![t.val, 0] ∧ win1_1.index t = ![0, 0] ∧ win1_2.index t = ![t.val, 0] :=
  (by decide +kernel : ∀ t : Fin grid1.N, _)

/-- A product times one factor. -/
def scaledProduct (B : FVec Ideal S10000x10000 .fp8e4m3) (Q : FVec Ideal S10000x40 .fp8e4m3) (f : Ideal .f32) : FVec Ideal S10000x40 .f32 := fun i =>
  (∑ k : Fin 10000, B (ix2 (i 0) k) * Q (ix2 k (i 1))) * f

/-- A block of the product, over any contents of the first operand's array. -/
theorem pointProduct (B : FVec Ideal S10000x10000 .fp8e4m3) (Q : FVec Ideal S10000x40 .fp8e4m3) (f : Ideal .f32) (t : Fin cfg1.N) (y) :
    k1_pay5 (((cfg1.win 0).blk t).view.read (Elt Ideal) B) Q f y = scaledProduct B Q f (((cfg1.win 2).blk t).view.emb y) := by
  pointwise [k1_pay5, scaledProduct]
  blk_point [idx1 t]

variable (m : (ℓ : Loc nD τ sig) → Buf (Elt Ideal) ℓ)

/-- The features the second region holds whole are the first region's second result. -/
theorem wholeZ (c : Dev nD) (t : Fin cfg1.N) : blkB m c 1 t = W2 m c main_v2_1 := by
  blk_ext! [blkB, idx1 t]

/-- The result array of any proof data that leaves those blocks. -/
theorem resultOf (c : Dev nD) (D : Dat τ (Elt Ideal) Unit ℕ (UR sig nD τ) ℕ cfg1 c) (B : FVec Ideal S10000x10000 .fp8e4m3)
    (Q : FVec Ideal S10000x40 .fp8e4m3) (f : Ideal .f32)
    (hD : ∀ t, D.after 2 t = k1_pay5 (((cfg1.win 0).blk t).view.read (Elt Ideal) B) Q f) :
    D.arrAt 2 cfg1.N = scaledProduct B Q f := by
  refine D.arrAt_eq_of_covers 2 _ (by decide +kernel) fun t _ y => ?_
  blk_simp
  rw [hD]
  exact pointProduct B Q f t y

/-- The adjacency block a point holds, read off the first region's first result. -/
theorem adjBlock (c : Dev nD) (t : Fin cfg1.N) : blkB m c 0 t = ((cfg1.win 0).blk t).view.read (Elt Ideal) (W2 m c main_v2_0) := by
  unfold blkB; rfl

/-- The result array after the second region, over the argument arrays. -/
theorem finalOutput (c : Dev nD) (B : FVec Ideal S10000x10000 .fp8e4m3) (z : FVec Ideal S10000x40 .bf16) (hB : W2 m c main_v2_0 = B)
    (hz : W2 m c main_v2_1 = z) : (datB m c).arrAt 2 cfg1.N = scaledProduct B (k1_pay3 z) (k1_pay4 z) := by
  refine resultOf c (datB m c) B (k1_pay3 z) (k1_pay4 z) fun t => ?_
  rw [afterB_2, adjBlock, scaled, factor, wholeZ, hB, hz]

/-- The same with the first region's two results at their values. -/
theorem finalResult (c : Dev nD) : (datB m c).arrAt 2 cfg1.N
    = scaledProduct (scaledAdj (m ((c : Thread nD τ).loc main_arg1)))
        (k1_pay3 (feats (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))))
        (k1_pay4 (feats (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)))) :=
  finalOutput m c _ _ ((W2_adj m c).trans (finalAdj m c)) ((W2_feat m c).trans (finalFeat m c))

end Cert.KernelIdeal.Output

end
-- ==== Proof.KernelIdealValue.lean ====
/-
  The kernel's result is the reference's, over the real numbers.

  The kernel scales the adjacency by 80000 and the second-layer features `z` by `s = 192 / max(max|z|, 1e-30)`, multiplies, and
  multiplies by `1 / (80000 s)`. With every argument a real number `z` is real, so `s` is real and positive, and the two
  scalings cancel. An infinite argument would make `s` zero and the last factor infinite: hence the precondition.
-/
module

public import proofs.«01_k».proof.Pre_finite
public import proofs.«01_k».proof.Proof.KernelIdealOutput
public import Idealize.ShloMosaic.Lib.ReduceAll
public import Idealize.ShloMosaic.Lib.IdealHost

@[expose] public section

set_option maxRecDepth 16384

noncomputable section

namespace Cert.KernelIdeal.Value

open Cert.KernelIdeal Cert.KernelIdeal.Gen Cert.KernelIdeal.Arrays Cert.KernelIdeal.Output
open Idealize.ShloMosaic

/-! ## Real entries -/

/-- The extended real is a real number. -/
def IsReal (x : EReal) : Prop := ∃ r : ℝ, x = (r : EReal)

/-- A number whose absolute value is below infinity is real. -/
theorem realOf {x : EReal} (h : max x (-x) < ⊤) : IsReal x := by
  induction x with
  | bot => simp at h
  | top => simp at h
  | coe r => exact ⟨r, rfl⟩

/-- The absolute value of a real number is below infinity. -/
theorem IsReal.abs_lt {x : EReal} (h : IsReal x) : max x (-x) < ⊤ := by
  obtain ⟨r, rfl⟩ := h
  exact max_lt (EReal.coe_lt_top r) (by rw [← EReal.coe_neg]; exact EReal.coe_lt_top _)

/-- A sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A product of real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The positive part of a real number is real. -/
theorem IsReal.pos {x : EReal} (hx : IsReal x) : IsReal (max x 0) := by
  rcases max_choice x 0 with h | h <;> rw [h]
  exacts [hx, ⟨0, rfl⟩]

/-- A finite sum of real numbers, taken in the extended reals, is their real sum. -/
theorem sumCoe {n : ℕ} (f : Fin n → ℝ) : ∑ k, (f k : EReal) = ((∑ k, f k : ℝ) : EReal) := by
  induction n with
  | zero => simp
  | succ n ih => rw [Fin.sum_univ_succ, Fin.sum_univ_succ, ih, EReal.coe_add]
/-- A finite sum of real numbers is real. -/
theorem IsReal.sum {n : ℕ} {f : Fin n → EReal} (h : ∀ k, IsReal (f k)) : IsReal (∑ k, f k) := by
  choose g hg using h
  exact ⟨∑ k, g k, by rw [← sumCoe]; exact Finset.sum_congr rfl fun k _ => hg k⟩

/-! ## The literals -/

/-- The word of infinity. -/
theorem litTop : Ideal.ofBits .f32 0x7F800000#32 = ⊤ := by simp [Ideal.ofBits, Ideal.ieee, -EReal.coe_mul]
/-- The word of minus infinity. -/
theorem litBot : Ideal.ofBits .f32 0xFF800000#32 = ⊥ := by simp [Ideal.ofBits, Ideal.ieee, -EReal.coe_mul]
/-- The word of 80000. -/
theorem litScale : Ideal.ofBits .f32 0x479C4000#32 = ((80000 : ℝ) : EReal) := by
  simp [Ideal.ofBits, Ideal.ieee, -EReal.coe_mul]; norm_num
/-- The word of 192. -/
theorem litRange : Ideal.ofBits .f32 0x43400000#32 = ((192 : ℝ) : EReal) := by
  simp [Ideal.ofBits, Ideal.ieee, -EReal.coe_mul]; norm_num
/-- The least divisor is a positive real number. -/
theorem litTiny : ∃ r : ℝ, 0 < r ∧ Ideal.ofBits .f32 0x0DA24260#32 = (r : EReal) := by
  simp [Ideal.ofBits, Ideal.ieee, -EReal.coe_mul]

/-! ## The precondition -/

/-- Both of two bits joined by `and` are one, entry by entry. -/
theorem bothOne {s : Shape} {a b : IVec s 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

/-- An array all of whose absolute values are below infinity has real entries. -/
theorem allReal {s : Shape} (x : FVec Ideal s .f32) (hb : Cert.Pre_finite.S_.BroadcastsInDim s ![]) (axes : List (Fin s.rank))
    (hr : s.ReducesTo axes Cert.Pre_finite.S_) (hu : 0 < Cert.Pre_finite.S_.numel)
    (h : Host.reduce IntOp.andi (cmpf .olt (Host.absf x) (broadcastInDim s ![] hb (constant Cert.Pre_finite.S_ .f32 0x7F800000#32)))
      (constantI Cert.Pre_finite.S_ 1 1#1) hr hu = fun _ => 1#1) (i : s.Idx) : IsReal (x i) := by
  have hs : Subsingleton Cert.Pre_finite.S_.Idx := ⟨fun a b => funext fun k => k.elim0⟩
  have g := Host.reduce_andi_all _ _ hr hu (fun k => k.elim0) (congrFun h _) i
  have g : BitVec.ofBool (decide (max (x i) (-(x i)) < Ideal.ofBits .f32 0x7F800000#32)) = 1#1 := g
  rw [litTop] at g
  refine realOf ?_
  by_contra hc
  rw [decide_eq_false hc] at g
  exact absurd g (by decide)

/-- The precondition says that every entry of all six arguments is real. -/
theorem realArgs [_hF : Cert.Pre_finite.Facts] (x : FVec Ideal S10000x128 .f32) (A : FVec Ideal S10000x10000 .f32) (U : FVec Ideal S128x128 .f32)
    (b : FVec Ideal S128 .f32) (W : FVec Ideal S128x40 .f32) (d : FVec Ideal S40 .f32) (h : Cert.Pre_finite.fn x A U b W d = fun _ => 1#1) :
    (∀ i, IsReal (x i)) ∧ (∀ i, IsReal (A i)) ∧ (∀ i, IsReal (U i)) ∧ (∀ i, IsReal (b i)) ∧ (∀ i, IsReal (W i)) ∧ ∀ i, IsReal (d i) := by
  unfold Cert.Pre_finite.fn Cert.Pre_finite.fn_part1 at h
  dsimp only at h
  obtain ⟨h, h5⟩ := bothOne h
  obtain ⟨h, h4⟩ := bothOne h
  obtain ⟨h, h3⟩ := bothOne h
  obtain ⟨h, h2⟩ := bothOne h
  obtain ⟨h0, h1⟩ := bothOne h
  exact ⟨allReal x _ _ _ _ h0, allReal A _ _ _ _ h1, allReal U _ _ _ _ h2, allReal b _ _ _ _ h3, allReal W _ _ _ _ h4, allReal d _ _ _ _ h5⟩

/-! ## The features and their scale -/

/-- The second-layer features at an index. -/
theorem featsAt (x : FVec Ideal S10000x128 .f32) (A : FVec Ideal S10000x10000 .f32) (U : FVec Ideal S128x128 .f32) (b : FVec Ideal S128 .f32)
    (W : FVec Ideal S128x40 .f32) (d : FVec Ideal S40 .f32) (i : Fin 10000) (j : Fin 40) : feats x A U b W d (ix2 i j)
      = (∑ l : Fin 128, max (∑ k : Fin 10000, A (ix2 i k) * (∑ p : Fin 128, x (ix2 k p) * U (ix2 p l) + b (ix1 l))) 0 * W (ix2 l j) + d (ix1 j) : EReal) := by
  pointwise [feats]

/-- Of real arguments they are real. -/
theorem featsReal {x : FVec Ideal S10000x128 .f32} {A : FVec Ideal S10000x10000 .f32} {U : FVec Ideal S128x128 .f32} {b : FVec Ideal S128 .f32}
    {W : FVec Ideal S128x40 .f32} {d : FVec Ideal S40 .f32} (hx : ∀ i, IsReal (x i)) (hA : ∀ i, IsReal (A i)) (hU : ∀ i, IsReal (U i))
    (hb : ∀ i, IsReal (b i)) (hW : ∀ i, IsReal (W i)) (hd : ∀ i, IsReal (d i)) (i : S10000x40.Idx) : IsReal (feats x A U b W d i) := by
  rw [eq_ix2 i]
  refine (featsAt x A U b W d (i 0) (i 1)).symm ▸ ?_
  exact .add (.sum fun l => .mul (.pos (.sum fun k => .mul (hA _) (.add (.sum fun p => .mul (hx _) (hU _)) (hb _)))) (hW _)) (hd _)

/-- The greatest entry of an array of numbers below infinity is below infinity. -/
theorem maxBelow {s t : Shape} {axes : List (Fin s.rank)} (src : FVec Ideal s .f32) (h : s.Reduces axes t) (hφ : FKind.Formats .f32)
    (hacc : (0xFF800000#32 : BitVec 32) = FKind.maximumf.neutral .f32 hφ) (j : t.Idx) (hs : ∀ i, src i < (⊤ : EReal)) :
    (multiReduction .maximumf axes t src 0xFF800000#32 h hφ hacc j : EReal) < ⊤ := by
  rw [multiReduction_maximumf_eq_fold]
  refine (Finset.fold_max_lt _).2 ⟨?_, fun i _ => hs i⟩
  show Ideal.ofBits .f32 0xFF800000#32 < ⊤
  rw [litBot]; exact bot_lt_top

/-- So are the entries of such an array in another shape. -/
theorem castBelow {s t : Shape} (v : FVec Ideal s .f32) (h : s.ShapeCasts t) (hv : ∀ i, v i < (⊤ : EReal)) (j : t.Idx) :
    (shapeCast t v h j : EReal) < ⊤ := hv _

/-- The features widened are the features. -/
theorem wideAt (z : FVec Ideal S10000x40 .bf16) (i) : (k1_pay1 (F := Ideal) z i : EReal) = z i := by pointwise [k1_pay1]

/-- Their absolute value. -/
theorem absAt (z : FVec Ideal S10000x40 .bf16) (i) : absf (k1_pay1 (F := Ideal) z) i = (max (z i) (-(z i)) : EReal) := by
  rw [← wideAt z i]; rfl

/-- 192 over the greater of a number and the least divisor. -/
theorem quotientAt (V : Ideal .f32) :
    Scalar.divf (F := Ideal) (Scalar.ofBits .f32 0x43400000#32) (Scalar.maximumf V (Scalar.ofBits .f32 0x0DA24260#32))
      = Ideal.div (Ideal.ofBits .f32 0x43400000#32) (max V (Ideal.ofBits .f32 0x0DA24260#32)) := rfl

/-- The scale of the features is 192 over the greater of some number below infinity and the least divisor. -/
theorem scaleForm (z : FVec Ideal S10000x40 .bf16) (hz : ∀ i, IsReal (z i)) : ∃ M : EReal, M < ⊤ ∧
    k1_pay2 (F := Ideal) z = Ideal.div (Ideal.ofBits .f32 0x43400000#32) (max M (Ideal.ofBits .f32 0x0DA24260#32)) := by
  unfold k1_pay2
  refine ⟨_, ?_, quotientAt _⟩
  refine castBelow _ shapeCasts_S1_S1x1x1 (fun j => ?_) _
  refine maxBelow _ reduces_S1x10000x40_S1 (.inl rfl) rfl j fun i => ?_
  refine castBelow _ shapeCasts_S10000x40_S1x10000x40 (fun i => ?_) i
  rw [absAt]; exact (hz i).abs_lt

/-- The scale of real features is a real number other than zero. -/
theorem scaleReal (z : FVec Ideal S10000x40 .bf16) (hz : ∀ i, IsReal (z i)) : ∃ s : ℝ, s ≠ 0 ∧ (k1_pay2 (F := Ideal) z : EReal) = (s : EReal) := by
  obtain ⟨M, hM, e⟩ := scaleForm z hz
  obtain ⟨ε, hε, he⟩ := litTiny
  obtain ⟨r, hr, hm⟩ : ∃ r : ℝ, 0 < r ∧ max M (ε : EReal) = (r : EReal) := by
    rcases max_choice M (ε : EReal) with h | h
    · induction M with
      | bot => exact ⟨ε, hε, by simp⟩
      | top => exact absurd hM (lt_irrefl _)
      | coe a => exact ⟨a, lt_of_lt_of_le hε (EReal.coe_le_coe_iff.1 (max_eq_left_iff.1 h)), h⟩
    · exact ⟨ε, hε, h⟩
  refine ⟨192 * (1 / r), by positivity, ?_⟩
  rw [e, he, hm, litRange, Ideal.div_coe hr.ne', EReal.coe_mul]

/-- A scaled entry. -/
theorem scaledEntry (v : FVec Ideal S10000x40 .f32) (s : Ideal .f32) (h) (i) :
    shapeCast S10000x40 (truncf .fp8e4m3 (mulf v (broadcast S10000x40 s)) h) shapeCasts_S10000x40_S10000x40 i = (v i : EReal) * s := by
  pointwise

/-- The scaled features at an index. -/
theorem scaledAt (z : FVec Ideal S10000x40 .bf16) (i) : (k1_pay3 (F := Ideal) z i : EReal) = z i * k1_pay2 (F := Ideal) z := by
  unfold k1_pay3
  refine (scaledEntry _ _ _ i).trans ?_
  rw [wideAt]

/-- One over 80000 times a number. -/
theorem inverseAt (s : Ideal .f32) : Scalar.divf (F := Ideal) (Scalar.ofBits .f32 0x3F800000#32) (Scalar.mulf (Scalar.ofBits .f32 0x479C4000#32) s)
    = Ideal.div 1 (Ideal.ofBits .f32 0x479C4000#32 * s) := by
  show Ideal.div (Ideal.ofBits .f32 0x3F800000#32) _ = _
  rw [Ideal.ofBits_one_f32]; rfl

/-- The factor that undoes both scalings. -/
theorem factorAt (z : FVec Ideal S10000x40 .bf16) :
    k1_pay4 (F := Ideal) z = Ideal.div 1 (Ideal.ofBits .f32 0x479C4000#32 * k1_pay2 (F := Ideal) z) := by
  unfold k1_pay4
  exact inverseAt _

/-! ## The two scalings cancel -/

/-- Over real numbers: scaling both factors of a sum of products and dividing by both scales changes nothing. -/
theorem cancel {n : ℕ} (a z : Fin n → ℝ) {s : ℝ} (hs : s ≠ 0) :
    (∑ k, ((a k : EReal) * ((80000 : ℝ) : EReal)) * ((z k : EReal) * (s : EReal))) * Ideal.div 1 (((80000 : ℝ) : EReal) * (s : EReal))
      = ∑ k, (a k : EReal) * (z k : EReal) := by
  rw [← EReal.coe_mul, Ideal.div_coe (mul_ne_zero (by norm_num) hs), one_mul]
  simp only [← EReal.coe_mul]
  rw [sumCoe, sumCoe, ← EReal.coe_mul, Finset.sum_mul]
  congr 1
  refine Finset.sum_congr rfl fun k _ => ?_
  field_simp

/-- The reference's result at an index. -/
theorem resultAt (A : FVec Ideal S10000x10000 .f32) (z : FVec Ideal S10000x40 .f32) (i : Fin 10000) (j : Fin 40) :
    result A z (ix2 i j) = (∑ k : Fin 10000, A (ix2 i k) * z (ix2 k j) : EReal) := by
  pointwise [result]

/-- With real entries the kernel's last product is the reference's. -/
theorem undone (A : FVec Ideal S10000x10000 .f32) (z : FVec Ideal S10000x40 .f32) (hA : ∀ i, IsReal (A i)) (hz : ∀ i, IsReal (z i)) :
    scaledProduct (scaledAdj A) (k1_pay3 (F := Ideal) z) (k1_pay4 (F := Ideal) z) = result A z := by
  obtain ⟨s, hs, e⟩ := scaleReal z hz
  choose a ha using hA
  choose b hb using hz
  funext i
  rw [eq_ix2 i]
  refine Eq.trans ?_ ((cancel (fun k => a (ix2 (i 0) k)) (fun k => b (ix2 k (i 1))) hs).trans
    (Eq.trans ?_ (resultAt A z (i 0) (i 1)).symm))
  · refine Ideal.mul_congr (Finset.sum_congr rfl fun k _ => Ideal.mul_congr ?_ ?_) ?_
    · unfold scaledAdj
      exact Ideal.mul_congr (ha _) litScale
    · refine (scaledAt z _).trans (Ideal.mul_congr (hb _) e)
    · rw [factorAt, litScale, e]
  · exact Finset.sum_congr rfl fun k _ => Ideal.mul_congr (ha _).symm (hb _).symm

end Cert.KernelIdeal.Value

end
-- ==== Proof.lean ====
/-
  The certificate: the three frames, the idealization, and the value claim, put together from the programs' runs.
-/
module

public import proofs.«01_k».proof.Defs
public import proofs.«01_k».proof.Proof.KernelRun
public import proofs.«01_k».proof.Proof.KernelIdealRun
public import proofs.«01_k».proof.Proof.KernelIdealValue
public import proofs.«01_k».proof.Proof.Gen.ReferenceIdeal.Run
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The shape facts the precondition states. -/
theorem factsFinite : Cert.Pre_finite.Facts := by constructor <;> decide

/-- The kernel runs, leaves its arguments as launched and every counter at zero. -/
theorem frameK : Cert.quiescent_Kernel (hKernel := Cert.Kernel.Gen.facts) := by
  intro m g _
  exact (θ_run _ _ _).mono (fun _ ⟨h, hz⟩ => ⟨fun c => (h c).2, hz⟩) (Cert.Kernel.Run.run_main m g)

/-- So does its idealization. -/
theorem frameKI : Cert.quiescent_KernelIdeal (hKernelIdeal := Cert.KernelIdeal.Gen.facts) := by
  intro m g _
  exact (θ_run _ _ _).mono (fun _ ⟨h, hz⟩ => ⟨fun c => (h c).2, hz⟩) (Cert.KernelIdeal.Run.run_main m g)

/-- So does the reference, which has no counter. -/
theorem frameRI : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- From finite arguments the kernel's result array ends as the reference's term of them. -/
theorem value (m : (ℓ : Loc Cert.KernelIdeal.nD Cert.KernelIdeal.τ Cert.KernelIdeal.sig) → Buf (Elt Ideal) ℓ)
    (hpre : Cert.Pre_KernelIdeal_finite (hPre_finite := factsFinite) m) (c : Dev Cert.KernelIdeal.nD) :
    (Cert.KernelIdeal.Region.datB m c).arrAt 2 Cert.KernelIdeal.cfg1.N
      = Cert.KernelIdeal.Arrays.result (m ((c.tc : Thread Cert.KernelIdeal.nD Cert.KernelIdeal.τ).loc Cert.KernelIdeal.main_arg1))
          (Cert.KernelIdeal.Arrays.feats (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))) := by
  obtain ⟨hx, hA, hU, hb, hW, hd⟩ := Cert.KernelIdeal.Value.realArgs (_hF := factsFinite) _ _ _ _ _ _ (hpre c)
  exact (Cert.KernelIdeal.Output.finalResult m c).trans
    (Cert.KernelIdeal.Value.undone _ _ hA (Cert.KernelIdeal.Value.featsReal hx hA hU hb hW hd))

/-- The kernel and the reference agree over the reals. -/
theorem agree : Cert.algebraic_KernelIdeal_ReferenceIdeal_pre_finite (hKernelIdeal := Cert.KernelIdeal.Gen.facts)
    (hReferenceIdeal := Cert.ReferenceIdeal.Gen.facts) (hPre_finite := factsFinite) := by
  pair_intro
  · run_from Cert.KernelIdeal.Run.run_main m g
  · run_from Cert.ReferenceIdeal.Value.run m' g'
    exact (value m hpre c).symm

/-- The certificate. -/
theorem claim : Cert.Claim :=
  ⟨Cert.Kernel.Gen.facts, Cert.KernelIdeal.Gen.facts, Cert.ReferenceIdeal.Gen.facts, factsFinite,
    frameK, frameKI, fun m g _ => frameKI m g trivial, frameRI, fun m g _ => frameRI m g trivial, trivial, agree⟩

end Cert.Proof

end
